-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S160x2x80x128 : Shape := ⟨4, ![160, 2, 80, 128]⟩
abbrev S160x2x128 : Shape := ⟨3, ![160, 2, 128]⟩
abbrev S4x160x2x80x91 : Shape := ⟨5, ![4, 160, 2, 80, 91]⟩
abbrev S4x29120x128 : Shape := ⟨3, ![4, 29120, 128]⟩
abbrev S8x2x80x128 : Shape := ⟨4, ![8, 2, 80, 128]⟩
abbrev S8x2x128 : Shape := ⟨3, ![8, 2, 128]⟩
abbrev S4x8x2x80x91 : Shape := ⟨5, ![4, 8, 2, 80, 91]⟩
abbrev S4x1456x128 : Shape := ⟨3, ![4, 1456, 128]⟩
abbrev S1x1x80x128 : Shape := ⟨4, ![1, 1, 80, 128]⟩
abbrev S80x128 : Shape := ⟨2, ![80, 128]⟩
abbrev S80x256 : Shape := ⟨2, ![80, 256]⟩
abbrev S160x256 : Shape := ⟨2, ![160, 256]⟩
abbrev S1x1x2x80x91 : Shape := ⟨5, ![1, 1, 2, 80, 91]⟩
abbrev S2x80x91 : Shape := ⟨3, ![2, 80, 91]⟩
abbrev S160x91 : Shape := ⟨2, ![160, 91]⟩
abbrev S160x37 : Shape := ⟨2, ![160, 37]⟩
abbrev S160x128 : Shape := ⟨2, ![160, 128]⟩
abbrev S128x160 : Shape := ⟨2, ![128, 160]⟩
abbrev S96x160 : Shape := ⟨2, ![96, 160]⟩
abbrev S768x160 : Shape := ⟨2, ![768, 160]⟩
abbrev S768x256 : Shape := ⟨2, ![768, 256]⟩
abbrev S1x1x128 : Shape := ⟨3, ![1, 1, 128]⟩
abbrev S1x128 : Shape := ⟨2, ![1, 128]⟩
abbrev S91x128 : Shape := ⟨2, ![91, 128]⟩
abbrev S1x91x128 : Shape := ⟨3, ![1, 91, 128]⟩
abbrev S4x160x91x2x128 : Shape := ⟨5, ![4, 160, 91, 2, 128]⟩
abbrev S4x160x2x128x91 : Shape := ⟨5, ![4, 160, 2, 128, 91]⟩

abbrev nBuf : Space → Nat
  | .hbm => 10
  | .vmem => 12
  | .smem => 0
  | _ => 0

abbrev bufTy : (tb : Table) → Fin (tcTables nBuf tb) → BufTy
  | .hbm, ⟨0, _⟩ => ⟨S160x2x80x128, .fp8e4m3⟩
  | .hbm, ⟨1, _⟩ => ⟨S160x2x128, .f32⟩
  | .hbm, ⟨2, _⟩ => ⟨S4x160x2x80x91, .bf16⟩
  | .hbm, ⟨3, _⟩ => ⟨S4x160x2x80x91, .bf16⟩
  | .hbm, ⟨4, _⟩ => ⟨S4x29120x128, .f32⟩
  | .hbm, ⟨5, _⟩ => ⟨S4x29120x128, .f32⟩
  | .hbm, ⟨6, _⟩ => ⟨S4x160x91x2x128, .f32⟩
  | .hbm, ⟨7, _⟩ => ⟨S4x160x2x128x91, .f32⟩
  | .hbm, ⟨8, _⟩ => ⟨S4x160x91x2x128, .f32⟩
  | .hbm, ⟨9, _⟩ => ⟨S4x160x2x128x91, .f32⟩
  | .local _ .vmem, ⟨0, _⟩ => ⟨S8x2x80x128, .fp8e4m3⟩
  | .local _ .vmem, ⟨1, _⟩ => ⟨S8x2x80x128, .fp8e4m3⟩
  | .local _ .vmem, ⟨2, _⟩ => ⟨S8x2x128, .f32⟩
  | .local _ .vmem, ⟨3, _⟩ => ⟨S8x2x128, .f32⟩
  | .local _ .vmem, ⟨4, _⟩ => ⟨S4x8x2x80x91, .bf16⟩
  | .local _ .vmem, ⟨5, _⟩ => ⟨S4x8x2x80x91, .bf16⟩
  | .local _ .vmem, ⟨6, _⟩ => ⟨S4x8x2x80x91, .bf16⟩
  | .local _ .vmem, ⟨7, _⟩ => ⟨S4x8x2x80x91, .bf16⟩
  | .local _ .vmem, ⟨8, _⟩ => ⟨S4x1456x128, .f32⟩
  | .local _ .vmem, ⟨9, _⟩ => ⟨S4x1456x128, .f32⟩
  | .local _ .vmem, ⟨10, _⟩ => ⟨S4x1456x128, .f32⟩
  | .local _ .vmem, ⟨11, _⟩ => ⟨S4x1456x128, .f32⟩
  | _, _ => ⟨S160x2x80x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x2x80x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x2x80x91 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x2x80x91 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1456x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1456x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S160x2x80x128 : Shape := ⟨4, ![160, 2, 80, 128]⟩
abbrev S160x2x128 : Shape := ⟨3, ![160, 2, 128]⟩
abbrev S4x160x2x80x91 : Shape := ⟨5, ![4, 160, 2, 80, 91]⟩
abbrev S160 : Shape := ⟨1, ![160]⟩
abbrev S160x1x1 : Shape := ⟨3, ![160, 1, 1]⟩
abbrev S2 : Shape := ⟨1, ![2]⟩
abbrev S1x2x1 : Shape := ⟨3, ![1, 2, 1]⟩
abbrev S80 : Shape := ⟨1, ![80]⟩
abbrev S1x1x80 : Shape := ⟨3, ![1, 1, 80]⟩
abbrev S_ : Shape := ⟨0, ![]⟩
abbrev S160x1x80 : Shape := ⟨3, ![160, 1, 80]⟩
abbrev S160x2x80 : Shape := ⟨3, ![160, 2, 80]⟩
abbrev S160x2x80x1 : Shape := ⟨4, ![160, 2, 80, 1]⟩
abbrev S160x2x128x4x91 : Shape := ⟨5, ![160, 2, 128, 4, 91]⟩
abbrev S4x160x2x128x91 : Shape := ⟨5, ![4, 160, 2, 128, 91]⟩
abbrev S1x160x2x128x1 : Shape := ⟨5, ![1, 160, 2, 128, 1]⟩
abbrev S4x160x1x128x91 : Shape := ⟨5, ![4, 160, 1, 128, 91]⟩
abbrev S4x160x128x91 : Shape := ⟨4, ![4, 160, 128, 91]⟩

abbrev nBuf : Space → Nat
  | .hbm => 56
  | .vmem => 2
  | .smem => 0
  | _ => 0

abbrev bufTy : (tb : Table) → Fin (tcTables nBuf tb) → BufTy
  | .hbm, ⟨0, _⟩ => ⟨S160x2x80x128, .fp8e4m3⟩
  | .hbm, ⟨1, _⟩ => ⟨S160x2x128, .f32⟩
  | .hbm, ⟨2, _⟩ => ⟨S4x160x2x80x91, .bf16⟩
  | .hbm, ⟨3, _⟩ => ⟨S4x160x2x80x91, .bf16⟩
  | .hbm, ⟨4, _⟩ => ⟨S160, .i32⟩
  | .hbm, ⟨5, _⟩ => ⟨S160x1x1, .i32⟩
  | .hbm, ⟨6, _⟩ => ⟨S2, .i32⟩
  | .hbm, ⟨7, _⟩ => ⟨S1x2x1, .i32⟩
  | .hbm, ⟨8, _⟩ => ⟨S80, .i32⟩
  | .hbm, ⟨9, _⟩ => ⟨S1x1x80, .i32⟩
  | .hbm, ⟨10, _⟩ => ⟨S_, .i32⟩
  | .hbm, ⟨11, _⟩ => ⟨S1x1x80, .i32⟩
  | .hbm, ⟨12, _⟩ => ⟨S1x1x80, .i32⟩
  | .hbm, ⟨13, _⟩ => ⟨S160x1x80, .i32⟩
  | .hbm, ⟨14, _⟩ => ⟨S160x1x80, .i32⟩
  | .hbm, ⟨15, _⟩ => ⟨S160x1x80, .i32⟩
  | .hbm, ⟨16, _⟩ => ⟨S160x2x80, .i32⟩
  | .hbm, ⟨17, _⟩ => ⟨S160x2x80, .i32⟩
  | .hbm, ⟨18, _⟩ => ⟨S160x2x80, .i32⟩
  | .hbm, ⟨19, _⟩ => ⟨S_, .i32⟩
  | .hbm, ⟨20, _⟩ => ⟨S160x2x80, .i32⟩
  | .hbm, ⟨21, _⟩ => ⟨S160x2x80, .i1⟩
  | .hbm, ⟨22, _⟩ => ⟨S160x2x80x1, .i1⟩
  | .hbm, ⟨23, _⟩ => ⟨S160x2x80x128, .bf16⟩
  | .hbm, ⟨24, _⟩ => ⟨S_, .bf16⟩
  | .hbm, ⟨25, _⟩ => ⟨S160x2x80x128, .i1⟩
  | .hbm, ⟨26, _⟩ => ⟨S160x2x80x128, .bf16⟩
  | .hbm, ⟨27, _⟩ => ⟨S160x2x80x128, .bf16⟩
  | .hbm, ⟨28, _⟩ => ⟨S160x2x128x4x91, .f32⟩
  | .hbm, ⟨29, _⟩ => ⟨S4x160x2x128x91, .f32⟩
  | .hbm, ⟨30, _⟩ => ⟨S1x160x2x128x1, .f32⟩
  | .hbm, ⟨31, _⟩ => ⟨S4x160x2x128x91, .f32⟩
  | .hbm, ⟨32, _⟩ => ⟨S4x160x2x128x91, .f32⟩
  | .hbm, ⟨33, _⟩ => ⟨S4x160x1x128x91, .f32⟩
  | .hbm, ⟨34, _⟩ => ⟨S4x160x128x91, .f32⟩
  | .hbm, ⟨35, _⟩ => ⟨S4x160x1x128x91, .f32⟩
  | .hbm, ⟨36, _⟩ => ⟨S4x160x128x91, .f32⟩
  | .hbm, ⟨37, _⟩ => ⟨S4x160x128x91, .f32⟩
  | .hbm, ⟨38, _⟩ => ⟨S4x160x128x91, .f32⟩
  | .hbm, ⟨39, _⟩ => ⟨S4x160x1x128x91, .f32⟩
  | .hbm, ⟨40, _⟩ => ⟨S4x160x1x128x91, .f32⟩
  | .hbm, ⟨41, _⟩ => ⟨S4x160x2x128x91, .f32⟩
  | .hbm, ⟨42, _⟩ => ⟨S160x2x128x4x91, .f32⟩
  | .hbm, ⟨43, _⟩ => ⟨S4x160x2x128x91, .f32⟩
  | .hbm, ⟨44, _⟩ => ⟨S1x160x2x128x1, .f32⟩
  | .hbm, ⟨45, _⟩ => ⟨S4x160x2x128x91, .f32⟩
  | .hbm, ⟨46, _⟩ => ⟨S4x160x2x128x91, .f32⟩
  | .hbm, ⟨47, _⟩ => ⟨S4x160x1x128x91, .f32⟩
  | .hbm, ⟨48, _⟩ => ⟨S4x160x128x91, .f32⟩
  | .hbm, ⟨49, _⟩ => ⟨S4x160x1x128x91, .f32⟩
  | .hbm, ⟨50, _⟩ => ⟨S4x160x128x91, .f32⟩
  | .hbm, ⟨51, _⟩ => ⟨S4x160x128x91, .f32⟩
  | .hbm, ⟨52, _⟩ => ⟨S4x160x128x91, .f32⟩
  | .hbm, ⟨53, _⟩ => ⟨S4x160x1x128x91, .f32⟩
  | .hbm, ⟨54, _⟩ => ⟨S4x160x1x128x91, .f32⟩
  | .hbm, ⟨55, _⟩ => ⟨S4x160x2x128x91, .f32⟩
  | .local _ .vmem, ⟨0, _⟩ => ⟨S160x2x80x128, .fp8e4m3⟩
  | .local _ .vmem, ⟨1, _⟩ => ⟨S160x2x80x128, .bf16⟩
  | _, _ => ⟨S160x2x80x128, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S160x2x80x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x2x80x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelBlock.lean ====
/-
  (The kernel as printed; the idealized program has the same text.) What one grid point of the Legendre kernel leaves in its two output blocks, written once for every azimuthal
  order `mm` of the block: the masked block-diagonal table, the stacked coefficient rows, their product, and the
  list of strided stores. Nothing is proved about the values here; the pieces are shown to cover the block.
-/
module

public import proofs.«01_k».proof.Proof.Gen.Kernel.Skeleton
public import proofs.«01_k».proof.Proof.Gen.Kernel.Frame
public import Idealize.ShloMosaic.Lib.Pipeline.Value
public import Idealize.ShloMosaic.Lib.ValueIdx

@[expose] public section

set_option maxRecDepth 16384

noncomputable section

namespace Cert.Kernel.Hand

open Idealize.ShloMosaic Idealize.ShloMosaic.TcCoe
open Idealize.ShloMosaic.ValueIdx
open Cert.Kernel.Gen

variable {F : FTy → Type} [FloatOps F]

/-! ## The rectangles -/

/-- The table codes of order `mm`, parity `p`. -/
def rTab (mm : Fin 8) (p : Fin 2) : Rect S8x2x80x128 :=
  Rect.unit ![mm.val, p.val, 0, 0] S1x1x80x128.size (by
    have := mm.isLt; have := p.isLt
    intro a; fin_cases a <;> simp [S8x2x80x128, S1x1x80x128] <;> omega)

/-- The scale row of order `mm`, parity `p`. -/
def rScale (mm : Fin 8) (p : Fin 2) : Rect S8x2x128 :=
  Rect.unit ![mm.val, p.val, 0] S1x1x128.size (by
    have := mm.isLt; have := p.isLt
    intro a; fin_cases a <;> simp [S8x2x128, S1x1x128] <;> omega)

/-- The coefficients of batch `b`, order `mm`. -/
def rCoef (b : Fin 4) (mm : Fin 8) : Rect S4x8x2x80x91 :=
  Rect.unit ![b.val, mm.val, 0, 0, 0] S1x1x2x80x91.size (by
    have := mm.isLt; have := b.isLt
    intro a; fin_cases a <;> simp [S4x8x2x80x91, S1x1x2x80x91] <;> omega)

/-- The output rows of batch `b`, order `mm`, hemisphere `h`: every second row from `182 * mm + h`. -/
def rOut (b : Fin 4) (mm : Fin 8) (h : Fin 2) : Rect S4x1456x128 :=
  ⟨⟨![b.val, 182 * mm.val + h.val, 0], S1x91x128.size, ![1, 2, 1], by
      have := mm.isLt; have := b.isLt; have := h.isLt
      intro a; fin_cases a <;> simp [S4x1456x128, S1x91x128] <;> omega⟩, spos_1_2_1⟩

/-- Rows `96 * j .. 96 * j + 90`, lanes `128 * p .. 128 * p + 127` of the product lie in it. -/
theorem slices_prod (j : Fin 8) (p : Fin 2) : S768x256.Slices ![96 * j.val, 128 * p.val] S91x128 :=
  ⟨rfl, by
    have := j.isLt; have := p.isLt
    intro a; fin_cases a <;> simp [S768x256, S91x128] <;> omega⟩

/-! ## The values -/

/-- The order `m` of row `mm` of the block at point `i`, as the kernel computes it: a 32-bit word. -/
def order (i : grid0.Coords) (mm : Fin 8) : BitVec 32 :=
  Scalar.addi (Scalar.muli (BitVec.ofNat 32 (i 0).val) 8#32) (BitVec.ofNat 32 mm.val)

/-- The codes of one parity in bf16, those with `w + 2k + p > 159` replaced by zero. -/
def masked (w p : BitVec 32) (x : Vec F S1x1x80x128 .fp8e4m3) : FVec F S80x128 .bf16 :=
  select (cmpi .sle (addi (addi (broadcast S80x128 w) (muli (broadcast S80x128 2#32) (iota .tc S80x128 32 [0] iota_S80x128_d0_w32)))
      (broadcast S80x128 p)) (broadcast S80x128 159#32))
    (extf .bf16 (shapeCast S80x128 x shapeCasts_S1x1x80x128_S80x128) bitsLt_fp8e4m3_bf16)
    (broadcast S80x128 (Scalar.ofBits .bf16 0x0000#16))

/-- A block of zeros. -/
def zeros : FVec F S80x128 .bf16 := broadcast S80x128 (Scalar.ofBits .bf16 0x0000#16)

/-- The two masked parities on the diagonal of a `160 × 256` table. -/
def table (w : BitVec 32) (x0 x1 : Vec F S1x1x80x128 .fp8e4m3) : FVec F S160x256 .bf16 :=
  concatenate S160x256 0
    [⟨S80x256, concatenate S80x256 1 [⟨S80x128, masked w 0#32 x0⟩, ⟨S80x128, zeros⟩] concatenates_S80x128_S80x128_S80x256_d1⟩,
     ⟨S80x256, concatenate S80x256 1 [⟨S80x128, zeros⟩, ⟨S80x128, masked w 1#32 x1⟩] concatenates_S80x128_S80x128_S80x256_d1⟩]
    concatenates_S80x256_S80x256_S160x256_d0

/-- One batch entry's coefficients, transposed and padded to 96 rows. -/
def rows (a : Vec F S1x1x2x80x91 .bf16) : FVec F S96x160 .bf16 :=
  extractStridedSlice S96x160 ![0, 0]
    (transpose S128x160 [1, 0]
      (concatenate S160x128 1
        [⟨S160x91, shapeCast S160x91 (shapeCast S2x80x91 a shapeCasts_S1x1x2x80x91_S2x80x91) shapeCasts_S2x80x91_S160x91⟩,
         ⟨S160x37, broadcast S160x37 (Scalar.sitofp .bf16 0#32)⟩] concatenates_S160x91_S160x37_S160x128_d1)
      transposes_S160x128_p1_0_S128x160) slices_S128x160_o0_0_S96x160

/-- The eight row blocks stacked, times the table. -/
def prod (T : FVec F S160x256 .bf16) (a : Fin 8 → Vec F S1x1x2x80x91 .bf16) : FVec F S768x256 .f32 :=
  matmul dot_S768x160_S160x256_S768x256_1_0_0_1_n_n none
    (concatenate S768x160 0 [⟨S96x160, rows (a 0)⟩, ⟨S96x160, rows (a 1)⟩, ⟨S96x160, rows (a 2)⟩, ⟨S96x160, rows (a 3)⟩,
      ⟨S96x160, rows (a 4)⟩, ⟨S96x160, rows (a 5)⟩, ⟨S96x160, rows (a 6)⟩, ⟨S96x160, rows (a 7)⟩]
      concatenates_S96x160_S96x160_S96x160_S96x160_S96x160_S96x160_S96x160_S96x160_S768x160_d0)
    T (constant S768x256 .f32 0x00000000#32)

/-- Row block `j` of the product at parity `p`, scaled. -/
def part (y : FVec F S768x256 .f32) (s : Vec F S1x1x128 .f32) (j : Fin 8) (p : Fin 2) : FVec F S91x128 .f32 :=
  mulf (extractStridedSlice S91x128 ![96 * j.val, 128 * p.val] y (slices_prod j p))
    (broadcastTo S91x128 (shapeCast S1x128 s shapeCasts_S1x1x128_S1x128) broadcasts_S1x128_S91x128)

section

variable (i : grid0.Coords) (x1 : Vec F S8x2x80x128 .fp8e4m3) (x2 : Vec F S8x2x128 .f32) (x3 x4 : Vec F S4x8x2x80x91 .bf16)

/-- The coefficients stacked for order `mm`: the four batch entries of the real part, then those of the imaginary. -/
def coefs (mm : Fin 8) : Fin 8 → Vec F S1x1x2x80x91 .bf16 :=
  ![View.ld x3 (rCoef 0 mm), View.ld x3 (rCoef 1 mm), View.ld x3 (rCoef 2 mm), View.ld x3 (rCoef 3 mm),
    View.ld x4 (rCoef 0 mm), View.ld x4 (rCoef 1 mm), View.ld x4 (rCoef 2 mm), View.ld x4 (rCoef 3 mm)]

/-- The product of order `mm`. -/
def prodAt (mm : Fin 8) : FVec F S768x256 .f32 :=
  prod (table (order i mm) (View.ld x1 (rTab mm 0)) (View.ld x1 (rTab mm 1))) (coefs x3 x4 mm)

/-- The scaled part of order `mm`, row block `j`, parity `p`. -/
def partAt (mm j : Fin 8) (p : Fin 2) : FVec F S91x128 .f32 :=
  part (prodAt i x1 x3 x4 mm) (View.ld x2 (rScale mm p)) j p

/-- What is stored at hemisphere 0: the even part plus the odd part. -/
def plus (mm j : Fin 8) : FVec F S1x91x128 .f32 :=
  shapeCast S1x91x128 (addf (partAt i x1 x2 x3 x4 mm j 0) (partAt i x1 x2 x3 x4 mm j 1)) shapeCasts_S91x128_S1x91x128

/-- What is stored at hemisphere 1: the even part minus the odd part. -/
def minus (mm j : Fin 8) : FVec F S1x91x128 .f32 :=
  shapeCast S1x91x128 (subf (partAt i x1 x2 x3 x4 mm j 0) (partAt i x1 x2 x3 x4 mm j 1)) shapeCasts_S91x128_S1x91x128

/-- The two stores of order `mm`, batch `b`, the last first; `j b` is the row block of batch `b`. -/
def pair (j : Fin 4 → Fin 8) (mm : Fin 8) (b : Fin 4) : List (View.Piece (Elt F) S4x1456x128 .f32) :=
  [⟨rOut b mm 1, minus i x1 x2 x3 x4 mm (j b)⟩, ⟨rOut b mm 0, plus i x1 x2 x3 x4 mm (j b)⟩]

/-- All stores into one output block, the last first. -/
def pieces (j : Fin 4 → Fin 8) : List (View.Piece (Elt F) S4x1456x128 .f32) :=
  [7, 6, 5, 4, 3, 2, 1, 0].flatMap fun mm => [3, 2, 1, 0].flatMap fun b => pair i x1 x2 x3 x4 j mm b

/-- The real part's row blocks. -/
def jRe (b : Fin 4) : Fin 8 := ⟨b.val, by omega⟩

/-- The imaginary part's row blocks. -/
def jIm (b : Fin 4) : Fin 8 := ⟨4 + b.val, by omega⟩

/-- A store of the list is one of the two stores of some order and batch entry. -/
theorem mem_pieces {j : Fin 4 → Fin 8} {p : View.Piece (Elt F) S4x1456x128 .f32} :
    p ∈ pieces i x1 x2 x3 x4 j ↔ ∃ mm b, p ∈ pair i x1 x2 x3 x4 j mm b := by
  unfold pieces
  simp only [List.mem_flatMap]
  constructor
  · rintro ⟨mm, _, b, _, h⟩; exact ⟨mm, b, h⟩
  · rintro ⟨mm, b, h⟩
    exact ⟨mm, by fin_cases mm <;> simp, b, by fin_cases b <;> simp, h⟩

/-- The stores cover the block: row `r` is written by order `r / 182`, hemisphere `r % 2`. -/
theorem cover (j : Fin 4 → Fin 8) (y : S4x1456x128.Idx) : ∃ p ∈ pieces i x1 x2 x3 x4 j, y ∈ p.1.set := by
  have h1 : (y 1).val < 1456 := (y 1).isLt
  have h0 : (y 0).val < 4 := (y 0).isLt
  have h2 : (y 2).val < 128 := (y 2).isLt
  let mm : Fin 8 := ⟨(y 1).val / 182, by omega⟩
  let b : Fin 4 := ⟨(y 0).val, h0⟩
  let t : Fin 91 := ⟨(y 1).val % 182 / 2, by omega⟩
  let d : Fin 128 := ⟨(y 2).val, h2⟩
  have key : ∀ h : Fin 2, h.val = (y 1).val % 2 → y ∈ (rOut b mm h).set := by
    intro h hh
    rw [← Rect.map_emb_univ]
    refine Finset.mem_map.mpr ⟨ix3 (0 : Fin 1) t d, Finset.mem_univ _, ?_⟩
    funext a
    apply Fin.ext
    fin_cases a
    · show b.val + 1 * 0 = (y 0).val; simp [b]
    · show 182 * mm.val + h.val + 2 * t.val = (y 1).val
      simp only [mm, t]; omega
    · show 0 + 1 * d.val = (y 2).val; simp [d]
  rcases Nat.mod_two_eq_zero_or_one (y 1).val with h | h
  · exact ⟨_, (mem_pieces i x1 x2 x3 x4).mpr ⟨mm, b, List.mem_cons_of_mem _ List.mem_cons_self⟩, key 0 h.symm⟩
  · exact ⟨_, (mem_pieces i x1 x2 x3 x4).mpr ⟨mm, b, List.mem_cons_self⟩, key 1 h.symm⟩

end

end Cert.Kernel.Hand

end
-- ==== Proof.KernelBody.lean ====
/-
  The kernel's body at a grid point runs and leaves the stores of `pieces` in its two output blocks; from that the
  launch of the whole program and its frame.
-/
module

public import proofs.«01_k».proof.Proof.KernelBlock
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- What the body leaves in the real part's block, from the four input blocks. -/
def outRe (i : grid0.Coords) (x1 : Vec F S8x2x80x128 .fp8e4m3) (x2 : Vec F S8x2x128 .f32) (x3 x4 : Vec F S4x8x2x80x91 .bf16) :
    Vec F S4x1456x128 .f32 := View.canon (pieces i x1 x2 x3 x4 jRe)

/-- What the body leaves in the imaginary part's block. -/
def outIm (i : grid0.Coords) (x1 : Vec F S8x2x80x128 .fp8e4m3) (x2 : Vec F S8x2x128 .f32) (x3 x4 : Vec F S4x8x2x80x91 .bf16) :
    Vec F S4x1456x128 .f32 := View.canon (pieces i x1 x2 x3 x4 jIm)

set_option maxHeartbeats 40000000 in
/-- The body on whole staging buffers, the inputs holding `x1 … x4` and the outputs anything, ends with the inputs as
    they were and the outputs at `outRe` and `outIm`. -/
theorem sound_kernel (i : grid0.Coords) (c : Dev nD) (E : Set ℕ)
    (arg1 : Memref sig .tc .vmem S8x2x80x128 .fp8e4m3) (harg1 : arg1.IsWhole) (arg2 : Memref sig .tc .vmem S8x2x128 .f32) (harg2 : arg2.IsWhole)
    (arg3 : Memref sig .tc .vmem S4x8x2x80x91 .bf16) (harg3 : arg3.IsWhole) (arg4 : Memref sig .tc .vmem S4x8x2x80x91 .bf16) (harg4 : arg4.IsWhole)
    (arg5 : Memref sig .tc .vmem S4x1456x128 .f32) (harg5 : arg5.IsWhole) (arg6 : Memref sig .tc .vmem S4x1456x128 .f32) (harg6 : arg6.IsWhole)
    (x1 : Vec F S8x2x80x128 .fp8e4m3) (x2 : Vec F S8x2x128 .f32) (x3 x4 : Vec F S4x8x2x80x91 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (outRe i x1 x2 x3 x4) ∗ owns (c : Thread nD τ) arg6 fullShare (outIm i x1 x2 x3 x4)) -∗ K ⟨⟩))
      ⊢ wp frame (wpE (defs₀ (F := F)) Variants.none c none) E (cc0_legendre i arg1 harg1 arg2 harg2 arg3 harg3 arg4 harg4 arg5 harg5 arg6 harg6) K := by
  simp only [cc0_legendre_eq_skeleton]; unfold cc0_legendre_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ (pieces i (arg1.view.read (Elt F) f1) (arg2.view.read (Elt F) f2)
      (arg3.view.read (Elt F) f3) (arg4.view.read (Elt F) f4) jRe) (cover i _ _ _ _ jRe)
  iexists _; isplitr
  swap; · iexact H6
  ipureintro
  exact View.read_writes_eq_canon _ _ (pieces i (arg1.view.read (Elt F) f1) (arg2.view.read (Elt F) f2)
    (arg3.view.read (Elt F) f3) (arg4.view.read (Elt F) f4) jIm) (cover i _ _ _ _ jIm)

end Cert.Kernel.Hand

end
-- ==== Proof.KernelFrame.lean ====
/-
  The pipeline's proof data from the body's triple, the launch of the whole program, and its frame.
-/
module

public import proofs.«01_k».proof.Proof.KernelBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: each input's buffer holds its block after the body, each output's
    what the body's stores leave from the four input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRe (grid0.coords t) (iblk m c 0 t) (iblk m c 1 t) (iblk m c 2 t) (iblk m c 3 t)
    | ⟨5, _⟩ => outIm (grid0.coords t) (iblk m c 0 t) (iblk m c 1 t) (iblk m c 2 t) (iblk m c 3 t)
  Φ _ := Pipeline.ΦA spec0 c
  q _ := fullShare
  owed _ := 0

/-- The arrays are the contents the region is entered with. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t =
    outRe (grid0.coords t) (iblk m c 0 t) (iblk m c 1 t) (iblk m c 2 t) (iblk m c 3 t) := by dsimp only [dats]
/-- What the body leaves in window 5. -/
theorem after0_5 (c : Dev nD) (t : Fin cfg0.N) : (dats m 0 c).after 5 t =
    outIm (grid0.coords t) (iblk m c 0 t) (iblk m c 1 t) (iblk m c 2 t) (iblk m c 3 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer holds its block at every point. -/
theorem before0_2 (c : Dev nD) (t : Fin cfg0.N) (d) : (dats m 0 c).before 2 t d = iblk m c 2 t :=
  before0_2_of m (dats m 0 c) (A_eq m c 2) (after0_2 m c) t d
/-- Window 3's buffer holds its block at every point. -/
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, from `sound_kernel`: the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel (grid0.coords t) c Set.univ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data say, every other buffer as the lines after the
    region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program runs, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdealBlock.lean ====
/-
  What one grid point of the Legendre kernel leaves in its two output blocks, written once for every azimuthal
  order `mm` of the block: the masked block-diagonal table, the stacked coefficient rows, their product, and the
  list of strided stores. Nothing is proved about the values here; the pieces are shown to cover the block.
-/
module

public import proofs.«01_k».proof.Proof.Gen.KernelIdeal.Skeleton
public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Hand

open Idealize.ShloMosaic Idealize.ShloMosaic.TcCoe
open Idealize.ShloMosaic.ValueIdx
open Cert.KernelIdeal.Gen

variable {F : FTy → Type} [FloatOps F]

/-! ## The rectangles -/

/-- The table codes of order `mm`, parity `p`. -/
def rTab (mm : Fin 8) (p : Fin 2) : Rect S8x2x80x128 :=
  Rect.unit ![mm.val, p.val, 0, 0] S1x1x80x128.size (by
    have := mm.isLt; have := p.isLt
    intro a; fin_cases a <;> simp [S8x2x80x128, S1x1x80x128] <;> omega)

/-- The scale row of order `mm`, parity `p`. -/
def rScale (mm : Fin 8) (p : Fin 2) : Rect S8x2x128 :=
  Rect.unit ![mm.val, p.val, 0] S1x1x128.size (by
    have := mm.isLt; have := p.isLt
    intro a; fin_cases a <;> simp [S8x2x128, S1x1x128] <;> omega)

/-- The coefficients of batch `b`, order `mm`. -/
def rCoef (b : Fin 4) (mm : Fin 8) : Rect S4x8x2x80x91 :=
  Rect.unit ![b.val, mm.val, 0, 0, 0] S1x1x2x80x91.size (by
    have := mm.isLt; have := b.isLt
    intro a; fin_cases a <;> simp [S4x8x2x80x91, S1x1x2x80x91] <;> omega)

/-- The output rows of batch `b`, order `mm`, hemisphere `h`: every second row from `182 * mm + h`. -/
def rOut (b : Fin 4) (mm : Fin 8) (h : Fin 2) : Rect S4x1456x128 :=
  ⟨⟨![b.val, 182 * mm.val + h.val, 0], S1x91x128.size, ![1, 2, 1], by
      have := mm.isLt; have := b.isLt; have := h.isLt
      intro a; fin_cases a <;> simp [S4x1456x128, S1x91x128] <;> omega⟩, spos_1_2_1⟩

/-- Rows `96 * j .. 96 * j + 90`, lanes `128 * p .. 128 * p + 127` of the product lie in it. -/
theorem slices_prod (j : Fin 8) (p : Fin 2) : S768x256.Slices ![96 * j.val, 128 * p.val] S91x128 :=
  ⟨rfl, by
    have := j.isLt; have := p.isLt
    intro a; fin_cases a <;> simp [S768x256, S91x128] <;> omega⟩

/-! ## The values -/

/-- The order `m` of row `mm` of the block at point `i`, as the kernel computes it: a 32-bit word. -/
def order (i : grid0.Coords) (mm : Fin 8) : BitVec 32 :=
  Scalar.addi (Scalar.muli (BitVec.ofNat 32 (i 0).val) 8#32) (BitVec.ofNat 32 mm.val)

/-- The codes of one parity in bf16, those with `w + 2k + p > 159` replaced by zero. -/
def masked (w p : BitVec 32) (x : Vec F S1x1x80x128 .fp8e4m3) : FVec F S80x128 .bf16 :=
  select (cmpi .sle (addi (addi (broadcast S80x128 w) (muli (broadcast S80x128 2#32) (iota .tc S80x128 32 [0] iota_S80x128_d0_w32)))
      (broadcast S80x128 p)) (broadcast S80x128 159#32))
    (extf .bf16 (shapeCast S80x128 x shapeCasts_S1x1x80x128_S80x128) bitsLt_fp8e4m3_bf16)
    (broadcast S80x128 (Scalar.ofBits .bf16 0x0000#16))

/-- A block of zeros. -/
def zeros : FVec F S80x128 .bf16 := broadcast S80x128 (Scalar.ofBits .bf16 0x0000#16)

/-- The two masked parities on the diagonal of a `160 × 256` table. -/
def table (w : BitVec 32) (x0 x1 : Vec F S1x1x80x128 .fp8e4m3) : FVec F S160x256 .bf16 :=
  concatenate S160x256 0
    [⟨S80x256, concatenate S80x256 1 [⟨S80x128, masked w 0#32 x0⟩, ⟨S80x128, zeros⟩] concatenates_S80x128_S80x128_S80x256_d1⟩,
     ⟨S80x256, concatenate S80x256 1 [⟨S80x128, zeros⟩, ⟨S80x128, masked w 1#32 x1⟩] concatenates_S80x128_S80x128_S80x256_d1⟩]
    concatenates_S80x256_S80x256_S160x256_d0

/-- One batch entry's coefficients, transposed and padded to 96 rows. -/
def rows (a : Vec F S1x1x2x80x91 .bf16) : FVec F S96x160 .bf16 :=
  extractStridedSlice S96x160 ![0, 0]
    (transpose S128x160 [1, 0]
      (concatenate S160x128 1
        [⟨S160x91, shapeCast S160x91 (shapeCast S2x80x91 a shapeCasts_S1x1x2x80x91_S2x80x91) shapeCasts_S2x80x91_S160x91⟩,
         ⟨S160x37, broadcast S160x37 (Scalar.sitofp .bf16 0#32)⟩] concatenates_S160x91_S160x37_S160x128_d1)
      transposes_S160x128_p1_0_S128x160) slices_S128x160_o0_0_S96x160

/-- The eight row blocks stacked, times the table. -/
def prod (T : FVec F S160x256 .bf16) (a : Fin 8 → Vec F S1x1x2x80x91 .bf16) : FVec F S768x256 .f32 :=
  matmul dot_S768x160_S160x256_S768x256_1_0_0_1_n_n none
    (concatenate S768x160 0 [⟨S96x160, rows (a 0)⟩, ⟨S96x160, rows (a 1)⟩, ⟨S96x160, rows (a 2)⟩, ⟨S96x160, rows (a 3)⟩,
      ⟨S96x160, rows (a 4)⟩, ⟨S96x160, rows (a 5)⟩, ⟨S96x160, rows (a 6)⟩, ⟨S96x160, rows (a 7)⟩]
      concatenates_S96x160_S96x160_S96x160_S96x160_S96x160_S96x160_S96x160_S96x160_S768x160_d0)
    T (constant S768x256 .f32 0x00000000#32)

/-- Row block `j` of the product at parity `p`, scaled. -/
def part (y : FVec F S768x256 .f32) (s : Vec F S1x1x128 .f32) (j : Fin 8) (p : Fin 2) : FVec F S91x128 .f32 :=
  mulf (extractStridedSlice S91x128 ![96 * j.val, 128 * p.val] y (slices_prod j p))
    (broadcastTo S91x128 (shapeCast S1x128 s shapeCasts_S1x1x128_S1x128) broadcasts_S1x128_S91x128)

section

variable (i : grid0.Coords) (x1 : Vec F S8x2x80x128 .fp8e4m3) (x2 : Vec F S8x2x128 .f32) (x3 x4 : Vec F S4x8x2x80x91 .bf16)

/-- The coefficients stacked for order `mm`: the four batch entries of the real part, then those of the imaginary. -/
def coefs (mm : Fin 8) : Fin 8 → Vec F S1x1x2x80x91 .bf16 :=
  ![View.ld x3 (rCoef 0 mm), View.ld x3 (rCoef 1 mm), View.ld x3 (rCoef 2 mm), View.ld x3 (rCoef 3 mm),
    View.ld x4 (rCoef 0 mm), View.ld x4 (rCoef 1 mm), View.ld x4 (rCoef 2 mm), View.ld x4 (rCoef 3 mm)]

/-- The product of order `mm`. -/
def prodAt (mm : Fin 8) : FVec F S768x256 .f32 :=
  prod (table (order i mm) (View.ld x1 (rTab mm 0)) (View.ld x1 (rTab mm 1))) (coefs x3 x4 mm)

/-- The scaled part of order `mm`, row block `j`, parity `p`. -/
def partAt (mm j : Fin 8) (p : Fin 2) : FVec F S91x128 .f32 :=
  part (prodAt i x1 x3 x4 mm) (View.ld x2 (rScale mm p)) j p

/-- What is stored at hemisphere 0: the even part plus the odd part. -/
def plus (mm j : Fin 8) : FVec F S1x91x128 .f32 :=
  shapeCast S1x91x128 (addf (partAt i x1 x2 x3 x4 mm j 0) (partAt i x1 x2 x3 x4 mm j 1)) shapeCasts_S91x128_S1x91x128

/-- What is stored at hemisphere 1: the even part minus the odd part. -/
def minus (mm j : Fin 8) : FVec F S1x91x128 .f32 :=
  shapeCast S1x91x128 (subf (partAt i x1 x2 x3 x4 mm j 0) (partAt i x1 x2 x3 x4 mm j 1)) shapeCasts_S91x128_S1x91x128

/-- The two stores of order `mm`, batch `b`, the last first; `j b` is the row block of batch `b`. -/
def pair (j : Fin 4 → Fin 8) (mm : Fin 8) (b : Fin 4) : List (View.Piece (Elt F) S4x1456x128 .f32) :=
  [⟨rOut b mm 1, minus i x1 x2 x3 x4 mm (j b)⟩, ⟨rOut b mm 0, plus i x1 x2 x3 x4 mm (j b)⟩]

/-- All stores into one output block, the last first. -/
def pieces (j : Fin 4 → Fin 8) : List (View.Piece (Elt F) S4x1456x128 .f32) :=
  [7, 6, 5, 4, 3, 2, 1, 0].flatMap fun mm => [3, 2, 1, 0].flatMap fun b => pair i x1 x2 x3 x4 j mm b

/-- The real part's row blocks. -/
def jRe (b : Fin 4) : Fin 8 := ⟨b.val, by omega⟩

/-- The imaginary part's row blocks. -/
def jIm (b : Fin 4) : Fin 8 := ⟨4 + b.val, by omega⟩

/-- A store of the list is one of the two stores of some order and batch entry. -/
theorem mem_pieces {j : Fin 4 → Fin 8} {p : View.Piece (Elt F) S4x1456x128 .f32} :
    p ∈ pieces i x1 x2 x3 x4 j ↔ ∃ mm b, p ∈ pair i x1 x2 x3 x4 j mm b := by
  unfold pieces
  simp only [List.mem_flatMap]
  constructor
  · rintro ⟨mm, _, b, _, h⟩; exact ⟨mm, b, h⟩
  · rintro ⟨mm, b, h⟩
    exact ⟨mm, by fin_cases mm <;> simp, b, by fin_cases b <;> simp, h⟩

/-- The stores cover the block: row `r` is written by order `r / 182`, hemisphere `r % 2`. -/
theorem cover (j : Fin 4 → Fin 8) (y : S4x1456x128.Idx) : ∃ p ∈ pieces i x1 x2 x3 x4 j, y ∈ p.1.set := by
  have h1 : (y 1).val < 1456 := (y 1).isLt
  have h0 : (y 0).val < 4 := (y 0).isLt
  have h2 : (y 2).val < 128 := (y 2).isLt
  let mm : Fin 8 := ⟨(y 1).val / 182, by omega⟩
  let b : Fin 4 := ⟨(y 0).val, h0⟩
  let t : Fin 91 := ⟨(y 1).val % 182 / 2, by omega⟩
  let d : Fin 128 := ⟨(y 2).val, h2⟩
  have key : ∀ h : Fin 2, h.val = (y 1).val % 2 → y ∈ (rOut b mm h).set := by
    intro h hh
    rw [← Rect.map_emb_univ]
    refine Finset.mem_map.mpr ⟨ix3 (0 : Fin 1) t d, Finset.mem_univ _, ?_⟩
    funext a
    apply Fin.ext
    fin_cases a
    · show b.val + 1 * 0 = (y 0).val; simp [b]
    · show 182 * mm.val + h.val + 2 * t.val = (y 1).val
      simp only [mm, t]; omega
    · show 0 + 1 * d.val = (y 2).val; simp [d]
  rcases Nat.mod_two_eq_zero_or_one (y 1).val with h | h
  · exact ⟨_, (mem_pieces i x1 x2 x3 x4).mpr ⟨mm, b, List.mem_cons_of_mem _ List.mem_cons_self⟩, key 0 h.symm⟩
  · exact ⟨_, (mem_pieces i x1 x2 x3 x4).mpr ⟨mm, b, List.mem_cons_self⟩, key 1 h.symm⟩

end

end Cert.KernelIdeal.Hand

end
-- ==== Proof.KernelIdealBody.lean ====
/-
  The kernel's body at a grid point runs and leaves the stores of `pieces` in its two output blocks; from that the
  launch of the whole program and its frame.
-/
module

public import proofs.«01_k».proof.Proof.KernelIdealBlock
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the body leaves in the real part's block, from the four input blocks. -/
def outRe (i : grid0.Coords) (x1 : Vec F S8x2x80x128 .fp8e4m3) (x2 : Vec F S8x2x128 .f32) (x3 x4 : Vec F S4x8x2x80x91 .bf16) :
    Vec F S4x1456x128 .f32 := View.canon (pieces i x1 x2 x3 x4 jRe)

/-- What the body leaves in the imaginary part's block. -/
def outIm (i : grid0.Coords) (x1 : Vec F S8x2x80x128 .fp8e4m3) (x2 : Vec F S8x2x128 .f32) (x3 x4 : Vec F S4x8x2x80x91 .bf16) :
    Vec F S4x1456x128 .f32 := View.canon (pieces i x1 x2 x3 x4 jIm)

set_option maxHeartbeats 40000000 in
/-- The body on whole staging buffers, the inputs holding `x1 … x4` and the outputs anything, ends with the inputs as
    they were and the outputs at `outRe` and `outIm`. -/
theorem sound_kernel (i : grid0.Coords) (c : Dev nD) (E : Set ℕ)
    (arg1 : Memref sig .tc .vmem S8x2x80x128 .fp8e4m3) (harg1 : arg1.IsWhole) (arg2 : Memref sig .tc .vmem S8x2x128 .f32) (harg2 : arg2.IsWhole)
    (arg3 : Memref sig .tc .vmem S4x8x2x80x91 .bf16) (harg3 : arg3.IsWhole) (arg4 : Memref sig .tc .vmem S4x8x2x80x91 .bf16) (harg4 : arg4.IsWhole)
    (arg5 : Memref sig .tc .vmem S4x1456x128 .f32) (harg5 : arg5.IsWhole) (arg6 : Memref sig .tc .vmem S4x1456x128 .f32) (harg6 : arg6.IsWhole)
    (x1 : Vec F S8x2x80x128 .fp8e4m3) (x2 : Vec F S8x2x128 .f32) (x3 x4 : Vec F S4x8x2x80x91 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (outRe i x1 x2 x3 x4) ∗ owns (c : Thread nD τ) arg6 fullShare (outIm i x1 x2 x3 x4)) -∗ K ⟨⟩))
      ⊢ wp frame (wpE (defs₀ (F := F)) Variants.none c none) E (cc0_legendre i arg1 harg1 arg2 harg2 arg3 harg3 arg4 harg4 arg5 harg5 arg6 harg6) K := by
  simp only [cc0_legendre_eq_skeleton]; unfold cc0_legendre_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ (pieces i (arg1.view.read (Elt F) f1) (arg2.view.read (Elt F) f2)
      (arg3.view.read (Elt F) f3) (arg4.view.read (Elt F) f4) jRe) (cover i _ _ _ _ jRe)
  iexists _; isplitr
  swap; · iexact H6
  ipureintro
  exact View.read_writes_eq_canon _ _ (pieces i (arg1.view.read (Elt F) f1) (arg2.view.read (Elt F) f2)
    (arg3.view.read (Elt F) f3) (arg4.view.read (Elt F) f4) jIm) (cover i _ _ _ _ jIm)

end Cert.KernelIdeal.Hand

end
-- ==== Proof.KernelIdealFrame.lean ====
/-
  The pipeline's proof data from the body's triple, the launch of the whole program, and its frame.
-/
module

public import proofs.«01_k».proof.Proof.KernelIdealBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: each input's buffer holds its block after the body, each output's
    what the body's stores leave from the four input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRe (grid0.coords t) (iblk m c 0 t) (iblk m c 1 t) (iblk m c 2 t) (iblk m c 3 t)
    | ⟨5, _⟩ => outIm (grid0.coords t) (iblk m c 0 t) (iblk m c 1 t) (iblk m c 2 t) (iblk m c 3 t)
  Φ _ := Pipeline.ΦA spec0 c
  q _ := fullShare
  owed _ := 0

/-- The arrays are the contents the region is entered with. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t =
    outRe (grid0.coords t) (iblk m c 0 t) (iblk m c 1 t) (iblk m c 2 t) (iblk m c 3 t) := by dsimp only [dats]
/-- What the body leaves in window 5. -/
theorem after0_5 (c : Dev nD) (t : Fin cfg0.N) : (dats m 0 c).after 5 t =
    outIm (grid0.coords t) (iblk m c 0 t) (iblk m c 1 t) (iblk m c 2 t) (iblk m c 3 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer holds its block at every point. -/
theorem before0_2 (c : Dev nD) (t : Fin cfg0.N) (d) : (dats m 0 c).before 2 t d = iblk m c 2 t :=
  before0_2_of m (dats m 0 c) (A_eq m c 2) (after0_2 m c) t d
/-- Window 3's buffer holds its block at every point. -/
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, from `sound_kernel`: the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel (grid0.coords t) c Set.univ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data say, every other buffer as the lines after the
    region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program runs, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelIdealBlockValue.lean ====
/-
  The numbers that one grid point of the Legendre kernel computes, over the extended reals: each entry of a scaled
  part is a sum over the eighty degree slots of one parity. The block-diagonal table contributes only zeros outside the
  parity's own diagonal block, and the padding rows of the stacked coefficients are never read.
-/
module

public import proofs.«01_k».proof.Proof.KernelIdealBlock
public import Idealize.ShloMosaic.Lib.Pointwise

@[expose] public section

set_option maxRecDepth 16384

noncomputable section

namespace Cert.KernelIdeal.Hand

open Idealize.ShloMosaic Idealize.ShloMosaic.TcCoe
open Cert.KernelIdeal.Gen

/-- The bit that says whether the entry at order `w`, degree slot `k`, parity `p` is kept: `w + 2 k + p ≤ 159`,
    computed on 32-bit words. -/
def keep (w : BitVec 32) (k : ℕ) (p : BitVec 32) : BitVec 1 :=
  IntOp.cmpi .sle (IntOp.addi (IntOp.addi w (IntOp.muli 2#32 (BitVec.ofNat 32 k))) p) 159#32

/-- A masked code: the code itself where it is kept, zero elsewhere. -/
theorem masked_apply (w p : BitVec 32) (x : Vec Ideal S1x1x80x128 .fp8e4m3) (k : Fin 80) (t : Fin 128) :
    masked (F := Ideal) w p x (ix2 k t) = Scalar.select (keep w k.val p) (x (ix4 0 0 k t)) 0 := by
  pointwise [masked, keep]

/-- The padded, transposed coefficients at a row that is not padding. -/
theorem rows_apply (a : Vec Ideal S1x1x2x80x91 .bf16) (d : Fin 91) (q : Fin 160) :
    rows (F := Ideal) a (ix2 ⟨d.val, by omega⟩ q)
      = a (ix5 0 0 ⟨q.val / 80, by omega⟩ ⟨q.val % 80, by omega⟩ d) := by
  pointwise [rows]

/-- Position `96 j + d` of eight blocks of 96 rows, found by testing one block after another, is row `d` of block `j`. -/
theorem ladder (g : Fin 8 → Fin 96 → EReal) (j : Fin 8) (d : Fin 96) :
    (if h : 96 * j.val + d.val < 96 then g 0 ⟨96 * j.val + d.val, h⟩ else
      if h : 96 * j.val + d.val - 96 < 96 then g 1 ⟨96 * j.val + d.val - 96, h⟩ else
      if h : 96 * j.val + d.val - 96 - 96 < 96 then g 2 ⟨96 * j.val + d.val - 96 - 96, h⟩ else
      if h : 96 * j.val + d.val - 96 - 96 - 96 < 96 then g 3 ⟨96 * j.val + d.val - 96 - 96 - 96, h⟩ else
      if h : 96 * j.val + d.val - 96 - 96 - 96 - 96 < 96 then g 4 ⟨96 * j.val + d.val - 96 - 96 - 96 - 96, h⟩ else
      if h : 96 * j.val + d.val - 96 - 96 - 96 - 96 - 96 < 96 then g 5 ⟨96 * j.val + d.val - 96 - 96 - 96 - 96 - 96, h⟩ else
      if h : 96 * j.val + d.val - 96 - 96 - 96 - 96 - 96 - 96 < 96 then g 6 ⟨96 * j.val + d.val - 96 - 96 - 96 - 96 - 96 - 96, h⟩ else
      g 7 ⟨96 * j.val + d.val - 96 - 96 - 96 - 96 - 96 - 96 - 96, by omega⟩) = g j d := by
  obtain ⟨d, hd⟩ := d
  obtain ⟨j, hj⟩ := j
  have key : ∀ (m : ℕ) (hm : m < 96), m = d → g ⟨j, hj⟩ ⟨m, hm⟩ = g ⟨j, hj⟩ ⟨d, hd⟩ := by
    rintro m hm rfl; rfl
  interval_cases j <;> dsimp only <;> (repeat' split) <;> first | omega | exact key _ _ (by omega)

/-- Row `96 j + d` of the eight stacked row blocks is row `d` of block `j`; so the product's entry there is the sum of
    block `j`'s row against the table's column. -/
theorem prod_apply (T : FVec Ideal S160x256 .bf16) (a : Fin 8 → Vec Ideal S1x1x2x80x91 .bf16) (j : Fin 8) (d : Fin 91)
    (c : Fin 256) :
    prod (F := Ideal) T a (ix2 ⟨96 * j.val + d.val, by omega⟩ c)
      = ∑ q : Fin 160, a j (ix5 0 0 ⟨q.val / 80, by omega⟩ ⟨q.val % 80, by omega⟩ d) * T (ix2 q c) := by
  pointwise [prod]
  refine Finset.sum_congr rfl fun q _ => ?_
  refine congrArg (· * T (ix2 q c)) ?_
  exact (ladder (fun j d => rows (a j) (ix2 d q)) j ⟨d.val, by omega⟩).trans (rows_apply _ d q)

/-- The table on its diagonal. -/
theorem table_diag (w : BitVec 32) (x : Fin 2 → Vec Ideal S1x1x80x128 .fp8e4m3) (p : Fin 2) (k : Fin 80) (t : Fin 128) :
    table (F := Ideal) w (x 0) (x 1) (ix2 ⟨80 * p.val + k.val, by omega⟩ ⟨128 * p.val + t.val, by omega⟩)
      = Scalar.select (keep w k.val (BitVec.ofNat 32 p.val)) (x p (ix4 0 0 k t)) 0 := by
  rw [← masked_apply]
  fin_cases p <;> pointwise [table, zeros] <;> simp

/-- The table off its diagonal. -/
theorem table_off (w : BitVec 32) (x0 x1 : Vec Ideal S1x1x80x128 .fp8e4m3) (p p' : Fin 2) (h : p ≠ p') (k : Fin 80) (t : Fin 128) :
    table (F := Ideal) w x0 x1 (ix2 ⟨80 * p.val + k.val, by omega⟩ ⟨128 * p'.val + t.val, by omega⟩) = 0 := by
  have : p.val ≠ p'.val := fun e => h (Fin.ext e)
  pointwise [table, zeros]
  repeat' split
  all_goals first | omega | rfl

/-- Against the block-diagonal table only one parity's eighty terms survive. -/
theorem sum_table (w : BitVec 32) (x : Fin 2 → Vec Ideal S1x1x80x128 .fp8e4m3) (f : Fin 2 → Fin 80 → EReal) (p : Fin 2) (t : Fin 128) :
    (∑ q : Fin 160, f ⟨q.val / 80, by omega⟩ ⟨q.val % 80, by omega⟩
        * table (F := Ideal) w (x 0) (x 1) (ix2 q ⟨128 * p.val + t.val, by omega⟩))
      = ∑ k : Fin 80, f p k * Scalar.select (keep w k.val (BitVec.ofNat 32 p.val)) (x p (ix4 0 0 k t)) 0 := by
  have hg : ∀ (p' : Fin 2) (k : Fin 80), f ⟨(80 * p'.val + k.val) / 80, by omega⟩ ⟨(80 * p'.val + k.val) % 80, by omega⟩ = f p' k := by
    intro p' k
    have h1 : (80 * p'.val + k.val) / 80 = p'.val := by omega
    have h2 : (80 * p'.val + k.val) % 80 = k.val := by omega
    simp only [h1, h2]
  have hs : ∀ g : Fin 160 → EReal, ∑ q, g q = ∑ p' : Fin 2, ∑ k : Fin 80, g ⟨80 * p'.val + k.val, by omega⟩ := by
    intro g
    rw [Fin.sum_univ_two_halves 80 80 rfl, Fin.sum_univ_two]
    simp
  rw [hs, Finset.sum_eq_single p]
  · refine Finset.sum_congr rfl fun k _ => ?_
    rw [hg p k, table_diag]
  · intro p' _ hp
    refine Finset.sum_eq_zero fun k _ => ?_
    rw [table_off _ _ _ p' p hp, mul_zero]
  · simp

/-- One parity's sum at order `mm` of the block: batch `b`, latitude `d`, lane `t`. -/
def blockPart (i : grid0.Coords) (x1 : Vec Ideal S8x2x80x128 .fp8e4m3) (x2 : Vec Ideal S8x2x128 .f32)
    (a : Vec Ideal S4x8x2x80x91 .bf16) (b : Fin 4) (mm : Fin 8) (p : Fin 2) (d : Fin 91) (t : Fin 128) : EReal :=
  (∑ k : Fin 80, a (ix5 b mm p k d)
      * Scalar.select (keep (order i mm) k.val (BitVec.ofNat 32 p.val)) (x1 (ix4 mm p k t)) 0) * x2 (ix3 mm p t)

/-- A scaled part at an entry, over the coefficients the row block `j` was loaded from. -/
theorem partAt_apply (i : grid0.Coords) (x1 : Vec Ideal S8x2x80x128 .fp8e4m3) (x2 : Vec Ideal S8x2x128 .f32)
    (x3 x4 : Vec Ideal S4x8x2x80x91 .bf16) (a : Vec Ideal S4x8x2x80x91 .bf16) (b : Fin 4) (mm j : Fin 8)
    (ha : ∀ (p : Fin 2) (k : Fin 80) (d : Fin 91), coefs (F := Ideal) x3 x4 mm j (ix5 0 0 p k d) = a (ix5 b mm p k d))
    (p : Fin 2) (d : Fin 91) (t : Fin 128) :
    partAt (F := Ideal) i x1 x2 x3 x4 mm j p (ix2 d t) = blockPart i x1 x2 a b mm p d t := by
  have hx : ∀ (p : Fin 2) (k : Fin 80), (View.ld x1 (rTab mm p) : Vec Ideal S1x1x80x128 .fp8e4m3) (ix4 0 0 k t) = x1 (ix4 mm p k t) := by
    intro p k; pointwise [rTab]
  have hs : (View.ld x2 (rScale mm p) : Vec Ideal S1x1x128 .f32) (ix3 0 0 t) = x2 (ix3 mm p t) := by
    pointwise [rScale]
  have h1 : partAt (F := Ideal) i x1 x2 x3 x4 mm j p (ix2 d t)
      = prodAt (F := Ideal) i x1 x3 x4 mm (ix2 ⟨96 * j.val + d.val, by omega⟩ ⟨128 * p.val + t.val, by omega⟩)
        * (View.ld x2 (rScale mm p) : Vec Ideal S1x1x128 .f32) (ix3 0 0 t) := by
    pointwise [partAt, part]
  rw [h1, hs]
  unfold prodAt
  rw [prod_apply]
  have h2 := sum_table (order i mm) (fun p => View.ld x1 (rTab mm p)) (fun p k => coefs (F := Ideal) x3 x4 mm j (ix5 0 0 p k d)) p t
  refine congrArg (· * x2 (ix3 mm p t)) (h2.trans ?_)
  refine Finset.sum_congr rfl fun k _ => ?_
  rw [ha, hx]

/-- Row blocks 0 to 3 hold the real part's coefficients. -/
theorem coefs_re (x3 x4 : Vec Ideal S4x8x2x80x91 .bf16) (mm : Fin 8) (b : Fin 4) (p : Fin 2) (k : Fin 80) (d : Fin 91) :
    coefs (F := Ideal) x3 x4 mm (jRe b) (ix5 0 0 p k d) = x3 (ix5 b mm p k d) := by
  have h : coefs (F := Ideal) x3 x4 mm (jRe b) = View.ld x3 (rCoef b mm) := by fin_cases b <;> rfl
  rw [h]
  pointwise [rCoef]

/-- Row blocks 4 to 7 hold the imaginary part's coefficients. -/
theorem coefs_im (x3 x4 : Vec Ideal S4x8x2x80x91 .bf16) (mm : Fin 8) (b : Fin 4) (p : Fin 2) (k : Fin 80) (d : Fin 91) :
    coefs (F := Ideal) x3 x4 mm (jIm b) (ix5 0 0 p k d) = x4 (ix5 b mm p k d) := by
  have h : coefs (F := Ideal) x3 x4 mm (jIm b) = View.ld x4 (rCoef b mm) := by fin_cases b <;> rfl
  rw [h]
  pointwise [rCoef]

/-- An output block entry: row `r` belongs to order `r / 182`, latitude `r % 182 / 2` and hemisphere `r % 2`; the even
    part plus or minus the odd part. -/
def blockVal (i : grid0.Coords) (x1 : Vec Ideal S8x2x80x128 .fp8e4m3) (x2 : Vec Ideal S8x2x128 .f32)
    (a : Vec Ideal S4x8x2x80x91 .bf16) (b : Fin 4) (mm : Fin 8) (d : Fin 91) (h : Fin 2) (t : Fin 128) : EReal :=
  if h = 0 then blockPart i x1 x2 a b mm 0 d t + blockPart i x1 x2 a b mm 1 d t
  else blockPart i x1 x2 a b mm 0 d t - blockPart i x1 x2 a b mm 1 d t

/-- What the stores leave in an output block, entry by entry. -/
theorem canon_pieces (i : grid0.Coords) (x1 : Vec Ideal S8x2x80x128 .fp8e4m3) (x2 : Vec Ideal S8x2x128 .f32)
    (x3 x4 : Vec Ideal S4x8x2x80x91 .bf16) (j : Fin 4 → Fin 8) (a : Vec Ideal S4x8x2x80x91 .bf16)
    (ha : ∀ (mm : Fin 8) (b : Fin 4) (p : Fin 2) (k : Fin 80) (d : Fin 91),
      coefs (F := Ideal) x3 x4 mm (j b) (ix5 0 0 p k d) = a (ix5 b mm p k d)) (b : Fin 4) (r : Fin 1456) (t : Fin 128) :
    View.canon (pieces (F := Ideal) i x1 x2 x3 x4 j) (ix3 b r t)
      = blockVal i x1 x2 a b ⟨r.val / 182, by omega⟩ ⟨r.val % 182 / 2, by omega⟩ ⟨r.val % 2, by omega⟩ t := by
  refine View.canon_apply_of_pieces (fun y : S4x1456x128.Idx => blockVal i x1 x2 a (y 0)
      ⟨(y 1).val / 182, by have : (y 1).val < 1456 := (y 1).isLt; omega⟩
      ⟨(y 1).val % 182 / 2, by omega⟩ ⟨(y 1).val % 2, by omega⟩ (y 2)) _ ?_ (ix3 b r t)
    (cover i x1 x2 x3 x4 j _)
  intro p hp x
  obtain ⟨mm, b, hp⟩ := (mem_pieces i x1 x2 x3 x4).mp hp
  have hadd : ∀ (d : Fin 91) (t : Fin 128), plus (F := Ideal) i x1 x2 x3 x4 mm (j b) (ix3 0 d t) = blockVal i x1 x2 a b mm d 0 t := by
    intro d t
    rw [blockVal, if_pos rfl, ← partAt_apply i x1 x2 x3 x4 a b mm (j b) (ha mm b), ← partAt_apply i x1 x2 x3 x4 a b mm (j b) (ha mm b)]
    pointwise [plus]
  have hsub : ∀ (d : Fin 91) (t : Fin 128), minus (F := Ideal) i x1 x2 x3 x4 mm (j b) (ix3 0 d t) = blockVal i x1 x2 a b mm d 1 t := by
    intro d t
    rw [blockVal, if_neg (by decide), ← partAt_apply i x1 x2 x3 x4 a b mm (j b) (ha mm b), ← partAt_apply i x1 x2 x3 x4 a b mm (j b) (ha mm b)]
    pointwise [minus]
  have place : ∀ (h : Fin 2) (d : Fin 91) (t : Fin 128) (G : Fin 4 → Fin 8 → Fin 91 → Fin 2 → Fin 128 → EReal),
      (fun y : S4x1456x128.Idx => G (y 0)
        ⟨(y 1).val / 182, by have : (y 1).val < 1456 := (y 1).isLt; omega⟩
        ⟨(y 1).val % 182 / 2, by omega⟩ ⟨(y 1).val % 2, by omega⟩ (y 2)) ((rOut b mm h).emb (ix3 0 d t)) = G b mm d h t := by
    intro h d t G
    have e0 : (rOut b mm h).emb (ix3 0 d t) 0 = b := Fin.ext (by show b.val + 1 * 0 = b.val; omega)
    have e1 : ((rOut b mm h).emb (ix3 0 d t) 1).val = 182 * mm.val + h.val + 2 * d.val := rfl
    have e2 : (rOut b mm h).emb (ix3 0 d t) 2 = t := Fin.ext (by show 0 + 1 * t.val = t.val; omega)
    have := d.isLt; have := h.isLt
    have f1 : (182 * mm.val + h.val + 2 * d.val) / 182 = mm.val := by omega
    have f2 : (182 * mm.val + h.val + 2 * d.val) % 182 / 2 = d.val := by omega
    have f3 : (182 * mm.val + h.val + 2 * d.val) % 2 = h.val := by omega
    simp only [e0, e1, e2, f1, f2, f3]
  rcases List.mem_cons.mp hp with rfl | hp
  · obtain ⟨d, t, rfl⟩ : ∃ (d : Fin 91) (t : Fin 128), x = ix3 0 d t :=
      ⟨x 1, x 2, by rw [eq_ix3 x]; congr 1; exact Subsingleton.elim (α := Fin 1) _ _⟩
    exact (hsub d t).trans (place 1 d t (blockVal i x1 x2 a)).symm
  · obtain rfl := List.mem_singleton.mp hp
    obtain ⟨d, t, rfl⟩ : ∃ (d : Fin 91) (t : Fin 128), x = ix3 0 d t :=
      ⟨x 1, x 2, by rw [eq_ix3 x]; congr 1; exact Subsingleton.elim (α := Fin 1) _ _⟩
    exact (hadd d t).trans (place 0 d t (blockVal i x1 x2 a)).symm

end Cert.KernelIdeal.Hand

end
-- ==== Proof.KernelIdealArray.lean ====
/-
  What the whole run of the Legendre kernel leaves in its two output arrays, over the extended reals, in terms of the
  argument arrays: the blocks of the twenty grid points tile each array.
-/
module

public import proofs.«01_k».proof.Proof.KernelIdealFrame
public import proofs.«01_k».proof.Proof.KernelIdealBlockValue
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen

/-- One parity's sum at order `m`: batch `b`, latitude `d`, lane `t`. -/
def partOf (x : Vec Ideal S160x2x80x128 .fp8e4m3) (s : Vec Ideal S160x2x128 .f32)
    (a : Vec Ideal S4x160x2x80x91 .bf16) (b : Fin 4) (m : Fin 160) (p : Fin 2) (d : Fin 91) (t : Fin 128) : EReal :=
  (∑ k : Fin 80, a (ix5 b m p k d)
      * Scalar.select (keep (BitVec.ofNat 32 m.val) k.val (BitVec.ofNat 32 p.val)) (x (ix4 m p k t)) 0) * s (ix3 m p t)

/-- The field at order `m`, hemisphere `h`: the even part plus (`h = 0`) or minus (`h = 1`) the odd part. -/
def fieldOf (x : Vec Ideal S160x2x80x128 .fp8e4m3) (s : Vec Ideal S160x2x128 .f32)
    (a : Vec Ideal S4x160x2x80x91 .bf16) (b : Fin 4) (m : Fin 160) (d : Fin 91) (h : Fin 2) (t : Fin 128) : EReal :=
  if h = 0 then partOf x s a b m 0 d t + partOf x s a b m 1 d t
  else partOf x s a b m 0 d t - partOf x s a b m 1 d t

/-- The output array: row `r` belongs to order `r / 182`, latitude `r % 182 / 2` and hemisphere `r % 2`. -/
def arrayOf (x : Vec Ideal S160x2x80x128 .fp8e4m3) (s : Vec Ideal S160x2x128 .f32)
    (a : Vec Ideal S4x160x2x80x91 .bf16) : Vec Ideal S4x29120x128 .f32 := fun y =>
  fieldOf x s a (y 0) ⟨(y 1).val / 182, by have : (y 1).val < 29120 := (y 1).isLt; omega⟩
    ⟨(y 1).val % 182 / 2, by omega⟩ ⟨(y 1).val % 2, by omega⟩ (y 2)

/-- The kernel's word for the order is the order. -/
theorem order_eq (i : grid0.Coords) (mm : Fin 8) : order i mm = BitVec.ofNat 32 (8 * (i 0).val + mm.val) := by
  unfold order
  show BitVec.ofNat 32 (i 0).val * 8#32 + BitVec.ofNat 32 mm.val = _
  rw [show (8#32 : BitVec 32) = BitVec.ofNat 32 8 from rfl, ← BitVec.ofNat_mul, ← BitVec.ofNat_add, Nat.mul_comm]

variable (m : (ℓ : Loc nD τ sig) → Buf (Elt Ideal) ℓ)

/-- The windows' places: every window but the outputs moves along the orders alone. -/
theorem idx (t : Fin cfg0.N) :
    (cfg0.win 0).index t = ![(grid0.coords t 0).val, 0, 0, 0] ∧ (cfg0.win 1).index t = ![(grid0.coords t 0).val, 0, 0]
      ∧ (cfg0.win 2).index t = ![0, (grid0.coords t 0).val, 0, 0, 0] ∧ (cfg0.win 3).index t = ![0, (grid0.coords t 0).val, 0, 0, 0]
      ∧ (cfg0.win 4).index t = ![0, (grid0.coords t 0).val, 0] ∧ (cfg0.win 5).index t = ![0, (grid0.coords t 0).val, 0] := by
  revert t; decide +kernel

/-- The first coordinate of a grid point. -/
theorem coord_lt (t : Fin cfg0.N) : (grid0.coords t 0).val < 20 := (grid0.coords t 0).isLt

/-- Each input block read at an entry is its array read eight orders further per grid point. -/
theorem blk0 (c : Dev nD) (t : Fin cfg0.N) (mm : Fin 8) (p : Fin 2) (k : Fin 80) (l : Fin 128) :
    (iblk m c 0 t : Vec Ideal S8x2x80x128 .fp8e4m3) (ix4 mm p k l)
      = (m ((c : Thread nD τ).loc main_arg0) : Vec Ideal S160x2x80x128 .fp8e4m3)
          (ix4 ⟨8 * (grid0.coords t 0).val + mm.val, by have := coord_lt t; omega⟩ p k l) := by
  blk_ext [iblk, V_main_arg0, idx t]
/-- The same of the scales. -/
theorem blk1 (c : Dev nD) (t : Fin cfg0.N) (mm : Fin 8) (p : Fin 2) (l : Fin 128) :
    (iblk m c 1 t : Vec Ideal S8x2x128 .f32) (ix3 mm p l)
      = (m ((c : Thread nD τ).loc main_arg1) : Vec Ideal S160x2x128 .f32)
          (ix3 ⟨8 * (grid0.coords t 0).val + mm.val, by have := coord_lt t; omega⟩ p l) := by
  blk_ext [iblk, V_main_arg1, idx t]
/-- The same of the real coefficients. -/
theorem blk2 (c : Dev nD) (t : Fin cfg0.N) (b : Fin 4) (mm : Fin 8) (p : Fin 2) (k : Fin 80) (d : Fin 91) :
    (iblk m c 2 t : Vec Ideal S4x8x2x80x91 .bf16) (ix5 b mm p k d)
      = (m ((c : Thread nD τ).loc main_arg2) : Vec Ideal S4x160x2x80x91 .bf16)
          (ix5 b ⟨8 * (grid0.coords t 0).val + mm.val, by have := coord_lt t; omega⟩ p k d) := by
  blk_ext [iblk, V_main_arg2, idx t]
/-- The same of the imaginary coefficients. -/
theorem blk3 (c : Dev nD) (t : Fin cfg0.N) (b : Fin 4) (mm : Fin 8) (p : Fin 2) (k : Fin 80) (d : Fin 91) :
    (iblk m c 3 t : Vec Ideal S4x8x2x80x91 .bf16) (ix5 b mm p k d)
      = (m ((c : Thread nD τ).loc main_arg3) : Vec Ideal S4x160x2x80x91 .bf16)
          (ix5 b ⟨8 * (grid0.coords t 0).val + mm.val, by have := coord_lt t; omega⟩ p k d) := by
  blk_ext [iblk, V_main_arg3, idx t]

/-- A block's entry over the blocks of a grid point is the field over the arrays at the shifted order. -/
theorem blockVal_eq (c : Dev nD) (t : Fin cfg0.N) (a' : Vec Ideal S4x8x2x80x91 .bf16) (a : Vec Ideal S4x160x2x80x91 .bf16)
    (ha : ∀ (b : Fin 4) (mm : Fin 8) (p : Fin 2) (k : Fin 80) (d : Fin 91), a' (ix5 b mm p k d)
      = a (ix5 b ⟨8 * (grid0.coords t 0).val + mm.val, by have := coord_lt t; omega⟩ p k d))
    (b : Fin 4) (mm : Fin 8) (d : Fin 91) (h : Fin 2) (l : Fin 128) :
    blockVal (grid0.coords t) (iblk m c 0 t) (iblk m c 1 t) a' b mm d h l
      = fieldOf (m ((c : Thread nD τ).loc main_arg0)) (m ((c : Thread nD τ).loc main_arg1)) a b
          ⟨8 * (grid0.coords t 0).val + mm.val, by have := coord_lt t; omega⟩ d h l := by
  have hp : ∀ p : Fin 2, blockPart (grid0.coords t) (iblk m c 0 t) (iblk m c 1 t) a' b mm p d l
      = partOf (m ((c : Thread nD τ).loc main_arg0)) (m ((c : Thread nD τ).loc main_arg1)) a b
          ⟨8 * (grid0.coords t 0).val + mm.val, by have := coord_lt t; omega⟩ p d l := by
    intro p
    unfold blockPart partOf
    rw [blk1]
    refine congrArg (· * _) (Finset.sum_congr rfl fun k _ => ?_)
    rw [ha, blk0, order_eq]
  unfold blockVal fieldOf
  rw [hp, hp]

/-- A block's entry at row `r` is the array's entry eight orders further per grid point. -/
theorem block_eq (c : Dev nD) (t : Fin cfg0.N) (a' : Vec Ideal S4x8x2x80x91 .bf16) (a : Vec Ideal S4x160x2x80x91 .bf16)
    (ha : ∀ (b : Fin 4) (mm : Fin 8) (p : Fin 2) (k : Fin 80) (d : Fin 91), a' (ix5 b mm p k d)
      = a (ix5 b ⟨8 * (grid0.coords t 0).val + mm.val, by have := coord_lt t; omega⟩ p k d))
    (b : Fin 4) (r : Fin 1456) (l : Fin 128) (z : S4x29120x128.Idx) (h0 : (z 0).val = b.val)
    (h1 : (z 1).val = (grid0.coords t 0).val * 1456 + r.val) (h2 : (z 2).val = l.val) :
    blockVal (grid0.coords t) (iblk m c 0 t) (iblk m c 1 t) a' b ⟨r.val / 182, by omega⟩ ⟨r.val % 182 / 2, by omega⟩
        ⟨r.val % 2, by omega⟩ l
      = arrayOf (m ((c : Thread nD τ).loc main_arg0)) (m ((c : Thread nD τ).loc main_arg1)) a z := by
  rw [blockVal_eq m c t a' a ha]
  unfold arrayOf
  have e0 : z 0 = b := Fin.ext h0
  have e2 : z 2 = l := Fin.ext h2
  have f1 : ((grid0.coords t 0).val * 1456 + r.val) / 182 = 8 * (grid0.coords t 0).val + r.val / 182 := by omega
  have f2 : ((grid0.coords t 0).val * 1456 + r.val) % 182 / 2 = r.val % 182 / 2 := by omega
  have f3 : ((grid0.coords t 0).val * 1456 + r.val) % 2 = r.val % 2 := by omega
  simp only [e0, h1, e2, f1, f2, f3]

/-- The real part's output array after the run. -/
theorem arr_re (c : Dev nD) :
    (dats m 0 c).arrAt 4 cfg0.N = arrayOf (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  obtain ⟨b, r, l, rfl⟩ : ∃ (b : Fin 4) (r : Fin 1456) (l : Fin 128), y = ix3 b r l := ⟨y 0, y 1, y 2, eq_ix3 y⟩
  refine (canon_pieces (grid0.coords t) _ _ _ _ jRe (iblk m c 2 t) (fun mm b p k d => coefs_re _ _ mm b p k d) b r l).trans ?_
  refine block_eq m c t _ _ (blk2 m c t) b r l _ ?_ ?_ ?_
  all_goals blk_simp [idx t]

/-- The imaginary part's output array after the run. -/
theorem arr_im (c : Dev nD) :
    (dats m 0 c).arrAt 5 cfg0.N = arrayOf (m ((c : Thread nD τ).loc main_arg0)) (m ((c : Thread nD τ).loc main_arg1))
      (m ((c : Thread nD τ).loc main_arg3)) := by
  refine (dats m 0 c).arrAt_eq_of_covers 5 _ (by decide +kernel) fun t hf y => ?_
  blk_simp
  rw [after0_5]
  obtain ⟨b, r, l, rfl⟩ : ∃ (b : Fin 4) (r : Fin 1456) (l : Fin 128), y = ix3 b r l := ⟨y 0, y 1, y 2, eq_ix3 y⟩
  refine (canon_pieces (grid0.coords t) _ _ _ _ jIm (iblk m c 3 t) (fun mm b p k d => coefs_im _ _ mm b p k d) b r l).trans ?_
  refine block_eq m c t _ _ (blk3 m c t) b r l _ ?_ ?_ ?_
  all_goals blk_simp [idx t]

end Cert.KernelIdeal.Hand

end
-- ==== Proof.KernelIdealResult.lean ====
/-
  The two results of the Legendre kernel's program, over the extended reals: the lines after the launch split the rows
  of each output array into order, latitude and hemisphere and move the latitudes last.
-/
module

public import proofs.«01_k».proof.Proof.KernelIdealArray
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ)

/-- The pipeline's windows have distinct arrays. -/
theorem arr_inj : Function.Injective (Pipeline.arrRef spec0) := by decide

/-- The output array's row of an order, a latitude and a hemisphere. -/
theorem arrayOf_row (x : Vec Ideal S160x2x80x128 .fp8e4m3) (s : Vec Ideal S160x2x128 .f32)
    (a : Vec Ideal S4x160x2x80x91 .bf16) (b : Fin 4) (o : Fin 160) (h : Fin 2) (t : Fin 128) (d : Fin 91) :
    arrayOf x s a (ix3 b ⟨o.val * 182 + d.val * 2 + h.val, by omega⟩ t) = fieldOf x s a b o d h t := by
  have f1 : (o.val * 182 + d.val * 2 + h.val) / 182 = o.val := by omega
  have f2 : (o.val * 182 + d.val * 2 + h.val) % 182 / 2 = d.val := by omega
  have f3 : (o.val * 182 + d.val * 2 + h.val) % 2 = h.val := by omega
  show fieldOf x s a b ⟨(o.val * 182 + d.val * 2 + h.val) / 182, _⟩ ⟨(o.val * 182 + d.val * 2 + h.val) % 182 / 2, _⟩
    ⟨(o.val * 182 + d.val * 2 + h.val) % 2, _⟩ t = _
  simp only [f1, f2, f3]

/-- The first result, entry by entry. -/
theorem result_re (c : Dev nD) (b : Fin 4) (o : Fin 160) (h : Fin 2) (t : Fin 128) (d : Fin 91) :
    (Pipeline.afterTail₀ cfgs (dats m) 0 (V0 m) [hostOps1] c main_v2 : Vec Ideal S4x160x2x128x91 .f32) (ix5 b o h t d)
      = fieldOf (m ((c : Thread nD τ).loc main_arg0)) (m ((c : Thread nD τ).loc main_arg1)) (m ((c : Thread nD τ).loc main_arg2)) b o d h t := by
  unfold Pipeline.afterTail₀
  simp only [List.flatten_cons, List.flatten_nil, List.append_nil]
  unfold hostOps1
  after_reads_at
  have e := (Pipeline.withArrays_arr spec0 arr_inj c (V0 m c) (fun w => (dats m 0 c).arrAt w (cfgs 0).N) 4).trans (arr_re m c)
  exact (congrFun e _).trans (arrayOf_row _ _ _ b o h t d)

/-- The second result, entry by entry. -/
theorem result_im (c : Dev nD) (b : Fin 4) (o : Fin 160) (h : Fin 2) (t : Fin 128) (d : Fin 91) :
    (Pipeline.afterTail₀ cfgs (dats m) 0 (V0 m) [hostOps1] c main_v4 : Vec Ideal S4x160x2x128x91 .f32) (ix5 b o h t d)
      = fieldOf (m ((c : Thread nD τ).loc main_arg0)) (m ((c : Thread nD τ).loc main_arg1)) (m ((c : Thread nD τ).loc main_arg3)) b o d h t := by
  unfold Pipeline.afterTail₀
  simp only [List.flatten_cons, List.flatten_nil, List.append_nil]
  unfold hostOps1
  after_reads_at
  have e := (Pipeline.withArrays_arr spec0 arr_inj c (V0 m c) (fun w => (dats m 0 c).arrAt w (cfgs 0).N) 5).trans (arr_im m c)
  exact (congrFun e _).trans (arrayOf_row _ _ _ b o h t d)

end Cert.KernelIdeal.Hand

end
-- ==== Proof.ReferenceValue.lean ====
/-
  The two results of the reference, over the extended reals, entry by entry.
-/
module

public import proofs.«01_k».proof.Proof.Gen.ReferenceIdeal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ReferenceIdeal.Hand

open Idealize.ShloMosaic Idealize.ShloMosaic.TcCoe Idealize.ShloMosaic.Tactic
open Cert.ReferenceIdeal.Gen

/-- The mask's bit at order `o`, parity `p`, degree slot `k`: `o + 2 k + p ≤ 159`, computed on 32-bit words. -/
def mask (o : Fin 160) (p : Fin 2) (k : Fin 80) : BitVec 1 :=
  IntOp.cmpi .sle (IntOp.addi (IntOp.addi (BitVec.ofNat 32 o.val) (IntOp.muli 2#32 (BitVec.ofNat 32 k.val))) (BitVec.ofNat 32 p.val)) 159#32

/-- One parity's sum over the degree slots, scaled. -/
def partOf (x : Vec Ideal S160x2x80x128 .fp8e4m3) (s : Vec Ideal S160x2x128 .f32)
    (a : Vec Ideal S4x160x2x80x91 .bf16) (b : Fin 4) (o : Fin 160) (p : Fin 2) (d : Fin 91) (t : Fin 128) : EReal :=
  (∑ k : Fin 80, Scalar.select (mask o p k) ((x (ix4 o p k t) : EReal) * a (ix5 b o p k d)) (0 : EReal)) * s (ix3 o p t)

/-- The even part plus the odd part at hemisphere 0, minus it at hemisphere 1. -/
def fieldOf (x : Vec Ideal S160x2x80x128 .fp8e4m3) (s : Vec Ideal S160x2x128 .f32)
    (a : Vec Ideal S4x160x2x80x91 .bf16) (b : Fin 4) (o : Fin 160) (h : Fin 2) (t : Fin 128) (d : Fin 91) : EReal :=
  if h.val < 1 then partOf x s a b o 0 d t + partOf x s a b o 1 d t
  else partOf x s a b o 0 d t - partOf x s a b o 1 d t

variable (m : (ℓ : Loc nD τ sig) → Buf (Elt Ideal) ℓ)

/-- The pipeline's windows have distinct arrays. -/
theorem arr_inj : Function.Injective (Pipeline.arrRef spec0) := by decide

/-- The launch has one point, and its blocks are the whole arrays. -/
theorem idx (t : Fin cfg0.N) : (cfg0.win 0).index t = ![0, 0, 0, 0] ∧ (cfg0.win 1).index t = ![0, 0, 0, 0] := by
  revert t; decide +kernel

/-- The launch converts the codes to bf16, which over the extended reals leaves them as they are. -/
theorem arr_codes (c : Dev nD) :
    (dats m 0 c).arrAt 1 cfg0.N = (m ((c : Thread nD τ).loc main_arg0) : Vec Ideal S160x2x80x128 .fp8e4m3) := by
  refine (dats m 0 c).arrAt_eq_of_covers 1 _ (by decide +kernel) fun t hf y => ?_
  blk_simp
  rw [after0_1]
  frame_out
  obtain ⟨o, p, k, l, rfl⟩ : ∃ (o : Fin 160) (p : Fin 2) (k : Fin 80) (l : Fin 128), y = ix4 o p k l := ⟨y 0, y 1, y 2, y 3, eq_ix4 y⟩
  have h : k0_pay1 (F := Ideal) (iblk m c 0 t) (ix4 o p k l) = (iblk m c 0 t : Vec Ideal S160x2x80x128 .fp8e4m3) (ix4 o p k l) := by
    pointwise [k0_pay1]
  refine h.trans ?_
  blk_ext [iblk, V_main_arg0, idx t]

/-- Every buffer as the lines after the launch find it. -/
abbrev found (c : Dev nD) : Valuation τ sig (Elt Ideal) :=
  Pipeline.withArrays (cfgs 0).spec c (V0 m c) fun w => (dats m 0 c).arrAt w (cfgs 0).N

/-- The codes, in bf16. -/
theorem found_codes (c : Dev nD) :
    found m c (Proc.tc.devRef main_v17) = (m ((c : Thread nD τ).loc main_arg0) : Vec Ideal S160x2x80x128 .fp8e4m3) :=
  (Pipeline.withArrays_arr spec0 arr_inj c (V0 m c) (fun w => (dats m 0 c).arrAt w (cfgs 0).N) 1).trans (arr_codes m c)
/-- The scales. -/
theorem found_scale (c : Dev nD) : found m c (Proc.tc.devRef main_arg1) = m ((c : Thread nD τ).loc main_arg1) :=
  (Pipeline.withArrays_of_ne spec0 c (V0 m c) _ main_arg1 (by decide)).trans (V_main_arg1 m c)
/-- The real coefficients. -/
theorem found_re (c : Dev nD) : found m c (Proc.tc.devRef main_arg2) = m ((c : Thread nD τ).loc main_arg2) :=
  (Pipeline.withArrays_of_ne spec0 c (V0 m c) _ main_arg2 (by decide)).trans (V_main_arg2 m c)
/-- The imaginary coefficients. -/
theorem found_im (c : Dev nD) : found m c (Proc.tc.devRef main_arg3) = m ((c : Thread nD τ).loc main_arg3) :=
  (Pipeline.withArrays_of_ne spec0 c (V0 m c) _ main_arg3 (by decide)).trans (V_main_arg3 m c)

/-- The mask that the lines before the launch compute. -/
theorem found_mask (c : Dev nD) (o : Fin 160) (p : Fin 2) (k : Fin 80) :
    (found m c (Proc.tc.devRef main_v16) : Vec Ideal S160x2x80x1 .i1) (ix4 o p k 0) = mask o p k := by
  refine (congrFun (Pipeline.withArrays_of_ne spec0 c (V0 m c) _ main_v16 (by decide)) _).trans ?_
  simp only [V0, List.flatten_cons, List.flatten_nil, List.append_nil]
  unfold hostOps0
  after_reads_at
  rfl

/-- The first result, entry by entry. -/
theorem result_re (c : Dev nD) (b : Fin 4) (o : Fin 160) (h : Fin 2) (t : Fin 128) (d : Fin 91) :
    (Pipeline.afterTail₀ cfgs (dats m) 0 (V0 m) [hostOps1, hostOps1_1, hostOps1_2] c main_v32 : Vec Ideal S4x160x2x128x91 .f32) (ix5 b o h t d)
      = fieldOf (m ((c : Thread nD τ).loc main_arg0)) (m ((c : Thread nD τ).loc main_arg1)) (m ((c : Thread nD τ).loc main_arg2)) b o h t d := by
  unfold Pipeline.afterTail₀
  change StableHlo.after _ (found m c) _ _ = _
  simp only [List.flatten_cons, List.flatten_nil, List.append_nil]
  unfold hostOps1 hostOps1_1 hostOps1_2
  simp only [List.cons_append, List.nil_append]
  have e0 := found_codes m c
  have e1 := found_scale m c
  have e2 := found_re m c
  have e3 := found_mask m c
  generalize found m c = W at *
  after_reads_at
  unfold fieldOf partOf
  rw [← e0, ← e1, ← e2]
  simp only [← e3]
  rfl

/-- The second result, entry by entry. -/
theorem result_im (c : Dev nD) (b : Fin 4) (o : Fin 160) (h : Fin 2) (t : Fin 128) (d : Fin 91) :
    (Pipeline.afterTail₀ cfgs (dats m) 0 (V0 m) [hostOps1, hostOps1_1, hostOps1_2] c main_v46 : Vec Ideal S4x160x2x128x91 .f32) (ix5 b o h t d)
      = fieldOf (m ((c : Thread nD τ).loc main_arg0)) (m ((c : Thread nD τ).loc main_arg1)) (m ((c : Thread nD τ).loc main_arg3)) b o h t d := by
  unfold Pipeline.afterTail₀
  change StableHlo.after _ (found m c) _ _ = _
  simp only [List.flatten_cons, List.flatten_nil, List.append_nil]
  unfold hostOps1 hostOps1_1 hostOps1_2
  simp only [List.cons_append, List.nil_append]
  have e0 := found_codes m c
  have e1 := found_scale m c
  have e2 := found_im m c
  have e3 := found_mask m c
  generalize found m c = W at *
  after_reads_at
  unfold fieldOf partOf
  rw [← e0, ← e1, ← e2]
  simp only [← e3]
  rfl

end Cert.ReferenceIdeal.Hand

end
-- ==== Proof.Equation.lean ====
/-
  The kernel's field and the reference's field are one function of the arguments: they differ in the order of a product
  and in whether the mask is applied to a code or to the product it enters.
-/
module

public import proofs.«01_k».proof.Proof.KernelIdealResult
public import proofs.«01_k».proof.Proof.ReferenceValue

@[expose] public section

noncomputable section

namespace Cert.Proof

open Idealize.ShloMosaic

/-- A code masked before the product, or the product masked after it. -/
theorem masked_mul (w : BitVec 1) (x a : EReal) :
    a * Scalar.select w x (0 : EReal) = Scalar.select w (x * a) (0 : EReal) := by
  by_cases h : w = 1 <;> simp [Scalar.select, h, mul_comm]

/-- One parity's sum is the same in both. -/
theorem part_eq (x : Vec Ideal Cert.KernelIdeal.S160x2x80x128 .fp8e4m3) (s : Vec Ideal Cert.KernelIdeal.S160x2x128 .f32)
    (a : Vec Ideal Cert.KernelIdeal.S4x160x2x80x91 .bf16) (b : Fin 4) (o : Fin 160) (p : Fin 2) (d : Fin 91) (t : Fin 128) :
    Cert.KernelIdeal.Hand.partOf x s a b o p d t = Cert.ReferenceIdeal.Hand.partOf x s a b o p d t := by
  unfold Cert.KernelIdeal.Hand.partOf Cert.ReferenceIdeal.Hand.partOf
  exact congrArg (· * _) (Finset.sum_congr rfl fun k _ => masked_mul _ _ _)

/-- The field is the same in both. -/
theorem field_eq (x : Vec Ideal Cert.KernelIdeal.S160x2x80x128 .fp8e4m3) (s : Vec Ideal Cert.KernelIdeal.S160x2x128 .f32)
    (a : Vec Ideal Cert.KernelIdeal.S4x160x2x80x91 .bf16) (b : Fin 4) (o : Fin 160) (h : Fin 2) (t : Fin 128) (d : Fin 91) :
    Cert.KernelIdeal.Hand.fieldOf x s a b o d h t = Cert.ReferenceIdeal.Hand.fieldOf x s a b o h t d := by
  unfold Cert.KernelIdeal.Hand.fieldOf Cert.ReferenceIdeal.Hand.fieldOf
  rw [part_eq, part_eq]
  fin_cases h <;> rfl

end Cert.Proof

end
-- ==== Proof.lean ====
/-
  The proof of `Cert.Claim`: the frames of the kernel, of its ideal form and of the reference, and the equality of the
  two results of the kernel and of the reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- Run on the same arguments, the kernel over the extended reals and the reference leave the same two results and
    their arguments unchanged: each result entry of either program is the field at that entry. -/
theorem algebraic : Cert.algebraic_KernelIdeal_ReferenceIdeal := by
  pair_intro
  · run_from Cert.KernelIdeal.Hand.run_main m g
  · run_from Cert.ReferenceIdeal.Gen.run_main m' g'
    · funext j
      obtain ⟨b, o, h, t, d, rfl⟩ : ∃ (b : Fin 4) (o : Fin 160) (h : Fin 2) (t : Fin 128) (d : Fin 91), j = ix5 b o h t d :=
        ⟨j 0, j 1, j 2, j 3, j 4, eq_ix5 j⟩
      refine (Cert.ReferenceIdeal.Hand.result_re m' c b o h t d).trans ?_
      rw [(hagree c).1, (hagree c).2.1, (hagree c).2.2.1]
      exact ((Cert.KernelIdeal.Hand.result_re m c b o h t d).trans (field_eq _ _ _ b o h t d)).symm
    · funext j
      obtain ⟨b, o, h, t, d, rfl⟩ : ∃ (b : Fin 4) (o : Fin 160) (h : Fin 2) (t : Fin 128) (d : Fin 91), j = ix5 b o h t d :=
        ⟨j 0, j 1, j 2, j 3, j 4, eq_ix5 j⟩
      refine (Cert.ReferenceIdeal.Hand.result_im m' c b o h t d).trans ?_
      rw [(hagree c).1, (hagree c).2.1, (hagree c).2.2.2]
      exact ((Cert.KernelIdeal.Hand.result_im m c b o h t d).trans (field_eq _ _ _ b o h t d)).symm
    · exact (Cert.ReferenceIdeal.Gen.W_main_arg1 m' _ c).trans (hagree c).2.1
    · exact (Cert.ReferenceIdeal.Gen.W_main_arg2 m' _ c).trans (hagree c).2.2.1
    · exact (Cert.ReferenceIdeal.Gen.W_main_arg3 m' _ c).trans (hagree c).2.2.2

/-- The claim: the three frames, that no rewrite was made, and the equality of the results over the extended reals. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
